-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  bcast_S_S64x4096 : S_.BroadcastsInDim S64x4096 (![] : Fin 0 → Fin S64x4096.rank)

variable [Facts]

def fn {F : FTy → Type} [FloatOps F] (main_arg0 : FVec F S4x4096x4096 .f32) (main_arg1 : FVec F S64x4096 .f32) : IVec S4x4096x4096 1 × IVec S64x4096 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S8x16384 : Shape := ⟨2, ![8, 16384]⟩
abbrev S1x1 : Shape := ⟨2, ![1, 1]⟩
abbrev S1024x2048 : Shape := ⟨2, ![1024, 2048]⟩
abbrev S8x1024 : Shape := ⟨2, ![8, 1024]⟩
abbrev S64x1024 : Shape := ⟨2, ![64, 1024]⟩
abbrev S64x2048 : Shape := ⟨2, ![64, 2048]⟩
abbrev S1024 : Shape := ⟨1, ![1024]⟩
abbrev S1x1024 : Shape := ⟨2, ![1, 1024]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S16384x8 : Shape := ⟨2, ![16384, 8]⟩
abbrev S4x4096x8 : Shape := ⟨3, ![4, 4096, 8]⟩
abbrev S_ : Shape := ⟨0, ![]⟩

abbrev nBuf : Space → Nat
  | .hbm => 11
  | .vmem => 10
  | .smem => 1
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S8x16384, .f32⟩
  | .hbm, ⟨4, _⟩ => ⟨S8x16384, .i32⟩
  | .hbm, ⟨5, _⟩ => ⟨S1x1, .f32⟩
  | .hbm, ⟨6, _⟩ => ⟨S16384x8, .f32⟩
  | .hbm, ⟨7, _⟩ => ⟨S4x4096x8, .f32⟩
  | .hbm, ⟨8, _⟩ => ⟨S16384x8, .i32⟩
  | .hbm, ⟨9, _⟩ => ⟨S4x4096x8, .i32⟩
  | .hbm, ⟨10, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x4096, .f32⟩
  | .local _ .vmem, ⟨5, _⟩ => ⟨S8x1024, .f32⟩
  | .local _ .vmem, ⟨6, _⟩ => ⟨S8x1024, .f32⟩
  | .local _ .vmem, ⟨7, _⟩ => ⟨S8x1024, .i32⟩
  | .local _ .vmem, ⟨8, _⟩ => ⟨S8x1024, .i32⟩
  | .local _ .vmem, ⟨9, _⟩ => ⟨S64x1024, .f32⟩
  | .local _ .smem, ⟨0, _⟩ => ⟨S1x1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v131 : BitVec 1 := Scalar.cmpi .eq arg0 c15_i32
  let v132 : BitVec 32 := Scalar.extui v131
  let c0_i32_51 : BitVec 32 := 0#32
  let v133 : BitVec 1 := Scalar.cmpi .ne v132 c0_i32_51
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x8 : Shape := ⟨3, ![4, 4096, 8]⟩
abbrev S64 : Shape := ⟨1, ![64]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | .hbm, ⟨17, _⟩ => ⟨S4x4096x8, .f32⟩
  | .hbm, ⟨18, _⟩ => ⟨S4x4096x8, .i32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x8, .f32⟩
  | .hbm, ⟨23, _⟩ => ⟨S4x4096x8, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Rounds.lean ====
/-
  Eight rounds of "take the greatest entry, note the first row that holds it, replace that entry by -1" on a column of
  64 numbers none of which is negative, and why they name the same rows, in the same order, as a stable sort of the
  column by "greater" followed by a slice.
-/
module

public import Idealize.ShloMosaic.Lib.SortPrefix
public import Mathlib.Data.EReal.Operations

@[expose] public section

noncomputable section

namespace Cert.Router

open Idealize.ShloMosaic

/-- The greatest entry of a column. -/
def top (c : Fin 64 → EReal) : EReal := Finset.univ.sup' ⟨0, Finset.mem_univ _⟩ c

/-- No entry exceeds the greatest one. -/
theorem le_top (c : Fin 64 → EReal) (i : Fin 64) : c i ≤ top c := Finset.le_sup' c (Finset.mem_univ i)

/-- Some row holds the greatest entry. -/
theorem exists_top (c : Fin 64 → EReal) : ∃ i, c i = top c := by
  obtain ⟨i, _, h⟩ := Finset.exists_mem_eq_sup' (⟨0, Finset.mem_univ _⟩ : (Finset.univ : Finset (Fin 64)).Nonempty) c
  exact ⟨i, h.symm⟩

/-- The rows that hold the greatest entry; there is one. -/
theorem holders_nonempty (c : Fin 64 → EReal) : (Finset.univ.filter fun i => c i = top c).Nonempty := by
  obtain ⟨i, h⟩ := exists_top c
  exact ⟨i, Finset.mem_filter.mpr ⟨Finset.mem_univ i, h⟩⟩

/-- The first row that holds the greatest entry. -/
def first (c : Fin 64 → EReal) : Fin 64 := (Finset.univ.filter fun i => c i = top c).min' (holders_nonempty c)

/-- The first such row does hold the greatest entry. -/
theorem first_holds (c : Fin 64 → EReal) : c (first c) = top c :=
  (Finset.mem_filter.mp (Finset.min'_mem _ (holders_nonempty c))).2

/-- Every row that holds the greatest entry comes no earlier than the first. -/
theorem first_le (c : Fin 64 → EReal) (i : Fin 64) (h : c i = top c) : first c ≤ i :=
  Finset.min'_le _ _ (Finset.mem_filter.mpr ⟨Finset.mem_univ i, h⟩)

/-- A column with its first greatest entry replaced by -1. -/
def strike (c : Fin 64 → EReal) : Fin 64 → EReal := fun i => if i = first c then -1 else c i

/-- A column after `r` rounds. -/
def struck (c : Fin 64 → EReal) : ℕ → Fin 64 → EReal
  | 0 => c
  | r + 1 => strike (struck c r)

/-- The row that round `r` names. -/
def pick (c : Fin 64 → EReal) (r : ℕ) : Fin 64 := first (struck c r)

/-- After `r` rounds the rows named so far hold -1, the others what they held. -/
theorem struck_apply (c : Fin 64 → EReal) (r : ℕ) (i : Fin 64) :
    struck c r i = if ∃ q < r, pick c q = i then -1 else c i := by
  induction r with
  | zero => simp [struck]
  | succ r ih =>
    show (if i = first (struck c r) then -1 else struck c r i) = _
    by_cases h : i = first (struck c r)
    · rw [if_pos h, if_pos ⟨r, Nat.lt_succ_self r, h.symm⟩]
    · rw [if_neg h, ih]
      refine if_congr ⟨fun ⟨q, hq, e⟩ => ⟨q, Nat.lt_succ_of_lt hq, e⟩, fun ⟨q, hq, e⟩ => ⟨q, ?_, e⟩⟩ rfl rfl
      refine lt_of_le_of_ne (Nat.le_of_lt_succ hq) fun e' => h ?_
      subst e'
      exact e.symm

/-- While fewer than 64 rounds are over, some row is not yet named. -/
theorem exists_fresh (c : Fin 64 → EReal) (r : ℕ) (hr : r < 64) : ∃ i, ¬∃ q < r, pick c q = i := by
  refine Classical.by_contradiction fun h' => ?_
  have h : ∀ i, ∃ q < r, pick c q = i := fun i => Classical.not_not.mp fun hi => h' ⟨i, hi⟩
  have hs : Function.Surjective fun q : Fin r => pick c q.val := fun i => by
    obtain ⟨q, hq, e⟩ := h i
    exact ⟨⟨q, hq⟩, e⟩
  have := Fintype.card_le_of_surjective _ hs
  simp only [Fintype.card_fin] at this
  omega

/-- -1 lies below 0. -/
theorem neg_one_lt : (-1 : EReal) < 0 := by
  have : ((-1 : ℝ) : EReal) < ((0 : ℝ) : EReal) := EReal.coe_lt_coe_iff.mpr (by norm_num)
  simpa using this

variable {c : Fin 64 → EReal} (hc : ∀ i, 0 ≤ c i)
include hc

/-- A round names a row that no earlier round named. -/
theorem pick_fresh (r : ℕ) (hr : r < 64) : ¬∃ q < r, pick c q = pick c r := by
  intro h
  obtain ⟨i, hi⟩ := exists_fresh c r hr
  have h1 : struck c r i = c i := by rw [struck_apply, if_neg hi]
  have h2 : struck c r (pick c r) = -1 := by rw [struck_apply, if_pos h]
  have h3 : struck c r (pick c r) = top (struck c r) := first_holds _
  have h4 : c i ≤ -1 := by rw [← h1, ← h2, h3]; exact le_top _ i
  exact absurd (lt_of_le_of_lt ((hc i).trans h4) neg_one_lt) (lt_irrefl _)

/-- The greatest entry at round `r` is the column's own entry at the row that the round names. -/
theorem top_struck (r : ℕ) (hr : r < 64) : top (struck c r) = c (pick c r) := by
  rw [← first_holds (struck c r)]
  show struck c r (pick c r) = _
  rw [struck_apply, if_neg (pick_fresh hc r hr)]

/-- The rounds name different rows. -/
theorem pick_inj (q r : ℕ) (hq : q < 64) (hr : r < 64) (h : pick c q = pick c r) : q = r := by
  rcases lt_trichotomy q r with hl | he | hg
  · exact absurd ⟨q, hl, h⟩ (pick_fresh hc r hr)
  · exact he
  · exact absurd ⟨r, hg, h.symm⟩ (pick_fresh hc q hq)

/-- A row not named before round `r` holds at most what the row named then holds. -/
theorem le_pick (r : ℕ) (hr : r < 64) (p : Fin 64) (hp : ¬∃ q < r, pick c q = p) : c p ≤ c (pick c r) := by
  have h1 : struck c r p = c p := by rw [struck_apply, if_neg hp]
  rw [← h1, ← top_struck hc r hr]
  exact le_top _ p

/-- And if it holds as much, it comes no earlier. -/
theorem pick_le (r : ℕ) (hr : r < 64) (p : Fin 64) (hp : ¬∃ q < r, pick c q = p) (e : c p = c (pick c r)) :
    pick c r ≤ p := by
  refine first_le _ p ?_
  rw [struck_apply, if_neg hp, top_struck hc r hr, e]

omit hc

/-- A stable sort keeps equal elements in their order: on positions listed upwards, sorting by a relation is sorting by
    that relation and then by position. -/
theorem stableSort_then_position {n : ℕ} (R S : Fin n → Fin n → Bool) (l : List (Fin n)) (hl : l.Pairwise (· < ·))
    (h : ∀ a b, a < b → R b a = S b a) : stableSort R l = stableSort S l := by
  induction l with
  | nil => rfl
  | cons a l ih =>
    rw [List.pairwise_cons] at hl
    unfold stableSort
    rw [ih hl.2]
    refine insertBefore_congr R S a _ fun b hb => h a b ?_
    exact hl.1 b ((perm_stableSort S l).mem_iff.mp hb)

/-- So the positions a stable sort by the relation alone lists are those of the sort that also compares positions. -/
theorem sortedFrom_then_position {n : ℕ} (R S : Fin n → Fin n → Bool) (h : ∀ a b, a < b → R b a = S b a) :
    sortedFrom R = sortedFrom S := by
  funext k
  unfold sortedFrom
  have e : sortPositions n R = sortPositions n S := stableSort_then_position R S _ (List.pairwise_lt_finRange n) h
  rw [List.get_of_eq e]
  rfl

include hc in
/-- The first 8 positions of a stable sort by "greater" are the rows that the rounds name, for any keys ordered as the
    column is. -/
theorem sortedFrom_eq_pick (R : Fin 64 → Fin 64 → Bool) (hR : ∀ k k', R k k' = decide (c k' < c k)) (i : Fin 8) :
    sortedFrom R (i.castLE (by omega)) = pick c i := by
  let S : Fin 64 → Fin 64 → Bool := fun k k' => decide (c k' < c k) || (decide (c k = c k') && decide (k < k'))
  have hS : StrictTotalBefore S :=
    StrictTotalBefore.of_key_then_position (fun a b : EReal => decide (b < a)) c (fun a => by simp)
      (fun a b d hab hbd => by simp only [decide_eq_true_eq] at *; exact hbd.trans hab)
      (fun a b => by simp only [decide_eq_true_eq]; rcases lt_trichotomy a b with h | h | h <;> simp [h])
  have hRS : sortedFrom R = sortedFrom S := sortedFrom_then_position R S fun a b hab => by
    rw [hR]
    show _ = (_ || (_ && decide (b < a)))
    rw [decide_eq_false (not_lt_of_gt hab), Bool.and_false, Bool.or_false]
  have key : ∀ (r : Fin 8) (p : Fin 64), (¬∃ q < r.val, pick c q = p) → S p (pick c r) = false := fun r p hp => by
    have h1 := le_pick hc r.val (by omega) p hp
    have h2 := pick_le hc r.val (by omega) p hp
    show (decide (c (pick c r) < c p) || (decide (c p = c (pick c r)) && decide (p < pick c r))) = false
    rw [decide_eq_false (not_lt_of_ge h1), Bool.false_or, Bool.and_eq_false_iff]
    by_cases e : c p = c (pick c r)
    · exact Or.inr (decide_eq_false (not_lt_of_ge (h2 e)))
    · exact Or.inl (decide_eq_false e)
  rw [hRS]
  refine hS.sortedFrom_eq_of_prefix (k := 8) (by omega) (fun r : Fin 8 => pick c r) (fun a b h => ?_) (fun a b hab => ?_)
    (fun a p hp => ?_) i
  · exact Fin.ext (pick_inj hc a b (by omega) (by omega) h)
  · refine key a _ fun ⟨q, hq, e⟩ => ?_
    have := pick_inj hc q b (by omega) (by omega) e
    have := Fin.lt_def.mp hab
    omega
  · exact key a p fun ⟨q, hq, e⟩ => hp ⟨q, by omega⟩ e

end Cert.Router

end
-- ==== Proof.Folds.lean ====
/-
  The two folds down a column that a round is made of: the maximum started at minus infinity is the greatest entry, and
  the signed minimum of "the row's number where the row holds the greatest entry, 64 elsewhere" is the number of the
  first row that holds it.
-/
module

public import proofs.«01_k».proof.Proof.Rounds
public import Idealize.ShloMosaic.Lib.SortNet.Extract

@[expose] public section

noncomputable section

namespace Cert.Router

open Idealize.ShloMosaic

/-- A fold of `max` from minus infinity is the greatest entry. -/
theorem fold_max_eq_top (c : Fin 64 → EReal) : Finset.univ.fold max (⊥ : EReal) c = top c := by
  refine le_antisymm ((Finset.fold_max_le _).mpr ⟨bot_le, fun i _ => le_top c i⟩) ?_
  obtain ⟨i, h⟩ := exists_top c
  exact (Finset.le_fold_max _).mpr (Or.inr ⟨i, Finset.mem_univ i, h.ge⟩)

/-- A fold of the signed minimum is its start or one of the words, and is at most each of them. -/
theorem fold_minsi_spec {n : ℕ} (init : BitVec 32) (f : Fin n → BitVec 32) (s : Finset (Fin n)) :
    (s.fold IntOp.minsi init f = init ∨ ∃ i ∈ s, s.fold IntOp.minsi init f = f i) ∧
      ∀ i ∈ s, (s.fold IntOp.minsi init f).toInt ≤ (f i).toInt := by
  induction s using Finset.induction_on with
  | empty => exact ⟨Or.inl Finset.fold_empty, fun i hi => absurd hi (Finset.notMem_empty i)⟩
  | insert a s ha ih =>
    rw [Finset.fold_insert ha]
    generalize s.fold IntOp.minsi init f = z at ih ⊢
    obtain ⟨h1, h2⟩ := ih
    have hm := SortNet.toInt_minsi (f a) z
    refine ⟨?_, fun i hi => ?_⟩
    · rcases le_total (f a).toInt z.toInt with h | h
      · rw [min_eq_left h] at hm
        exact Or.inr ⟨a, Finset.mem_insert_self a s, BitVec.eq_of_toInt_eq hm⟩
      · rw [min_eq_right h] at hm
        rw [BitVec.eq_of_toInt_eq hm]
        exact h1.imp id fun ⟨i, hi, e⟩ => ⟨i, Finset.mem_insert_of_mem hi, e⟩
    · rw [hm]
      rcases Finset.mem_insert.mp hi with rfl | h
      · exact min_le_left _ _
      · exact (min_le_right _ _).trans (h2 i h)

/-- A row's number as a word reads as that number. -/
theorem toInt_row : ∀ i : Fin 64, (BitVec.ofNat 32 i.val).toInt = (i.val : ℤ) := by decide +kernel

/-- The first row that holds the greatest entry, as the minimum that a round takes. -/
theorem fold_minsi_eq_first (c : Fin 64 → EReal) (g : EReal) (hg : g = top c) :
    Finset.univ.fold IntOp.minsi (2147483647#32) (fun i : Fin 64 => if c i = g then BitVec.ofNat 32 i.val else 64#32)
      = BitVec.ofNat 32 (first c).val := by
  subst hg
  obtain ⟨h1, h2⟩ := fold_minsi_spec (2147483647#32)
    (fun i : Fin 64 => if c i = top c then BitVec.ofNat 32 i.val else 64#32) Finset.univ
  generalize Finset.univ.fold IntOp.minsi (2147483647#32)
    (fun i : Fin 64 => if c i = top c then BitVec.ofNat 32 i.val else 64#32) = z at h1 h2 ⊢
  have hf := h2 (first c) (Finset.mem_univ _)
  rw [if_pos (first_holds c), toInt_row] at hf
  have hlt := (first c).isLt
  rcases h1 with h | ⟨i, _, h⟩
  · subst h
    have : (2147483647#32 : BitVec 32).toInt = 2147483647 := by decide
    omega
  · subst h
    by_cases e : c i = top c
    · rw [if_pos e, toInt_row] at hf
      rw [if_pos e]
      have := Fin.le_def.mp (first_le c i e)
      congr 1
      omega
    · rw [if_neg e] at hf
      have : (64#32 : BitVec 32).toInt = 64 := by decide
      omega

end Cert.Router

end
-- ==== Proof.Words.lean ====
/-
  What the f32 literals of the two programs are as extended reals.
-/
module

public import Idealize.ShloMosaic.Lib.IdealHost

@[expose] public section

noncomputable section

namespace Cert.Router

open Idealize.ShloMosaic

/-- The word 0xFF800000 is minus infinity. -/
theorem ofBits_bot : Ideal.ofBits .f32 0xFF800000#32 = (⊥ : EReal) := by
  simp [Ideal.ofBits, Ideal.ieee]

/-- The word 0x7F800000 is plus infinity. -/
theorem ofBits_top : Ideal.ofBits .f32 0x7F800000#32 = (⊤ : EReal) := by
  simp [Ideal.ofBits, Ideal.ieee]

/-- The word 0xBF800000 is -1. -/
theorem ofBits_neg_one : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

/-- The word 0x42800000 is 64. -/
theorem ofBits_64 : Ideal.ofBits .f32 0x42800000#32 = ((64 : ℝ) : EReal) := by
  simp [Ideal.ofBits, Ideal.ieee, -EReal.coe_mul]; norm_num

end Cert.Router

end
-- ==== Proof.Columns.lean ====
/-
  The kernel's eight rounds on a tile of 64 rows and 1024 columns: every named intermediate value of the body is
  a maximum, a first row or a struck tile of the round before, and on a column these are those of Rounds.lean.
-/
module

public import proofs.«01_k».proof.Proof.Folds
public import proofs.«01_k».proof.Proof.Words
public import proofs.«01_k».proof.Proof.Gen.KernelIdeal.Skeleton
public import Idealize.ShloMosaic.Lib.Pipeline.ValueKit
public import Idealize.ShloMosaic.Lib.Pointwise
public import Idealize.ShloMosaic.Lib.IdealHost

@[expose] public section

set_option maxRecDepth 16384

noncomputable section

open Idealize.ShloMosaic

namespace Cert.Router

open Cert.KernelIdeal Cert.KernelIdeal.Gen

/-- A tile of 64 rows and 1024 columns. -/
abbrev Tile := FVec Ideal S64x1024 .f32

/-- The greatest entry of every column. -/
def rowMax (p : Tile) : FVec Ideal S1x1024 .f32 :=
  shapeCast S1x1024 (multiReduction .maximumf [0] S1024 p 0xFF800000#32 reduces_S64x1024_S1024 (.inl rfl) rfl)
    shapeCasts_S1024_S1x1024

/-- Every entry's row number. -/
def rows : IVec S64x1024 32 := iota .tc S64x1024 32 [0] iota_S64x1024_d0_w32

/-- The row number where an entry is its column's greatest, 64 elsewhere. -/
def holders (p : Tile) : IVec S64x1024 32 :=
  select (cmpf .oeq p (broadcastTo S64x1024 (rowMax p) broadcasts_S1x1024_S64x1024)) rows (broadcast S64x1024 64#32)

/-- The number of the first row that holds the greatest entry, of every column. -/
def rowArg (p : Tile) : IVec S1x1024 32 :=
  shapeCast S1x1024 (multiReductionI .minsi [0] S1024 (holders p) 2147483647#32 reduces_S64x1024_S1024 rfl)
    shapeCasts_S1024_S1x1024

/-- The tile with that entry of every column replaced by -1. -/
def mask (p : Tile) : Tile :=
  select (cmpi .eq rows (broadcastTo S64x1024 (rowArg p) broadcasts_S1x1024_S64x1024))
    (broadcast S64x1024 (Scalar.ofBits .f32 0xBF800000#32 : Ideal .f32)) p

/-- The tile after `r` rounds. -/
def masked (p : Tile) : ℕ → Tile
  | 0 => p
  | r + 1 => mask (masked p r)

/-- A column of a tile. -/
def col (p : Tile) (l : Fin 1024) : Fin 64 → EReal := fun i => p (ix2 i l)

/-- The maximum of a column. -/
theorem rowMax_apply (p : Tile) (l : Fin 1024) : rowMax p (ix2 0 l) = top (col p l) := by
  unfold rowMax
  pointwise
  rw [ofBits_bot]
  exact fold_max_eq_top (col p l)

/-- The first row of a column that holds its maximum. -/
theorem rowArg_apply (p : Tile) (l : Fin 1024) : rowArg p (ix2 0 l) = BitVec.ofNat 32 (first (col p l)).val := by
  unfold rowArg holders
  pointwise [rows]
  exact fold_minsi_eq_first (col p l) _ (rowMax_apply p l)

/-- Two row numbers are the same word only if they are the same row. -/
theorem row_word_inj : ∀ i j : Fin 64, BitVec.ofNat 32 i.val = BitVec.ofNat 32 j.val ↔ i = j := by
  intro i j
  refine ⟨fun h => ?_, fun h => h ▸ rfl⟩
  have := toInt_row i
  rw [h, toInt_row j] at this
  omega

/-- A column of the struck tile is the struck column. -/
theorem col_mask (p : Tile) (l : Fin 1024) : col (mask p) l = strike (col p l) := by
  funext i
  show mask p (ix2 i l) = if i = first (col p l) then -1 else p (ix2 i l)
  unfold mask
  pointwise [rows]
  rw [rowArg_apply, ofBits_neg_one]
  by_cases h : i = first (col p l)
  · rw [if_pos h]
    simp [Scalar.select, IntOp.cmpi, (row_word_inj _ _).mpr h]
  · rw [if_neg h]
    have e := beq_eq_false_iff_ne.mpr (mt (row_word_inj _ _).mp h)
    simp [Scalar.select, IntOp.cmpi, e]

/-- A column of the tile after `r` rounds is the column after `r` rounds. -/
theorem col_masked (p : Tile) (l : Fin 1024) (r : ℕ) : col (masked p r) l = struck (col p l) r := by
  induction r with
  | zero => rfl
  | succ r ih =>
    show col (mask (masked p r)) l = strike (struck (col p l) r)
    rw [col_mask, ih]

/-- The eight maxima, one under the other. -/
def maxima (p : Tile) : FVec Ideal S8x1024 .f32 :=
  concatenate S8x1024 0 [⟨S1x1024, rowMax (masked p 0)⟩, ⟨S1x1024, rowMax (masked p 1)⟩, ⟨S1x1024, rowMax (masked p 2)⟩,
    ⟨S1x1024, rowMax (masked p 3)⟩, ⟨S1x1024, rowMax (masked p 4)⟩, ⟨S1x1024, rowMax (masked p 5)⟩,
    ⟨S1x1024, rowMax (masked p 6)⟩, ⟨S1x1024, rowMax (masked p 7)⟩]
    concatenates_S1x1024_S1x1024_S1x1024_S1x1024_S1x1024_S1x1024_S1x1024_S1x1024_S8x1024_d0

/-- The eight row numbers, one under the other. -/
def places (p : Tile) : IVec S8x1024 32 :=
  concatenate S8x1024 0 [⟨S1x1024, rowArg (masked p 0)⟩, ⟨S1x1024, rowArg (masked p 1)⟩, ⟨S1x1024, rowArg (masked p 2)⟩,
    ⟨S1x1024, rowArg (masked p 3)⟩, ⟨S1x1024, rowArg (masked p 4)⟩, ⟨S1x1024, rowArg (masked p 5)⟩,
    ⟨S1x1024, rowArg (masked p 6)⟩, ⟨S1x1024, rowArg (masked p 7)⟩]
    concatenates_S1x1024_S1x1024_S1x1024_S1x1024_S1x1024_S1x1024_S1x1024_S1x1024_S8x1024_d0

/-- Line `r` of the maxima is round `r`'s. -/
theorem maxima_line (p : Tile) (r : Fin 8) (l : Fin 1024) : maxima p (ix2 r l) = rowMax (masked p r.val) (ix2 0 l) := by
  unfold maxima
  fin_cases r <;> pointwise

/-- Line `r` of the row numbers is round `r`'s. -/
theorem places_line (p : Tile) (r : Fin 8) (l : Fin 1024) : places p (ix2 r l) = rowArg (masked p r.val) (ix2 0 l) := by
  unfold places
  fin_cases r <;> pointwise

/-- Entry `r` of a column of row numbers is the row that round `r` names. -/
theorem places_apply (p : Tile) (r : Fin 8) (l : Fin 1024) :
    places p (ix2 r l) = BitVec.ofNat 32 (pick (col p l) r.val).val := by
  rw [places_line, rowArg_apply, col_masked]
  rfl

/-- Entry `r` of a column of maxima is the column's entry at the row that round `r` names. -/
theorem maxima_apply (p : Tile) (r : Fin 8) (l : Fin 1024) (hp : ∀ i, 0 ≤ col p l i) :
    maxima p (ix2 r l) = col p l (pick (col p l) r.val) := by
  rw [maxima_line, rowMax_apply, col_masked, top_struck hp r.val (by omega)]

end Cert.Router

end
-- ==== Proof.Body.lean ====
/-
  What the idealized kernel leaves at a grid point, in closed form: the two blocks of the eight rounds, the running sum of
  normalised probabilities, and at the last point the loss.
-/
module

public import proofs.«01_k».proof.Proof.Columns
public import proofs.«01_k».proof.Proof.Gen.KernelIdeal.Frame
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Router

open Cert.KernelIdeal Cert.KernelIdeal.Gen

variable (m : (ℓ : Loc nD τ sig) → Buf (Elt Ideal) ℓ)

/-- The tile of exponentials that a point computes. -/
def tile (c : Dev nD) (t : Fin cfg0.N) : Tile :=
  k0_pay5 (View.ld (iblk m c 2 t) (Rect.unit ![0, 0] ![64, 2048] inb_S64x4096_S64x2048_0_0)) (iblk m c 0 t)
    (View.ld (iblk m c 2 t) (Rect.unit ![0, 2048] ![64, 2048] inb_S64x4096_S64x2048_0_2048)) (iblk m c 1 t)

/-- The block of weights that a tile gives. -/
def weights (p : Tile) : FVec Ideal S8x1024 .f32 :=
  k0_pay1 (maxima p) (shapeCast S1x1024 (multiReduction .add [0] S1024 (maxima p) 0x00000000#32 reduces_S8x1024_S1024
    (.inl rfl) rfl) shapeCasts_S1024_S1x1024) k0_pay34

/-- The running sum with one more tile's normalised probabilities. -/
def added (a p : Tile) : Tile :=
  addf a (mulf p (broadcastTo S64x1024 (divf (broadcast S1x1024 (Scalar.ofBits .f32 0x3F800000#32 : Ideal .f32))
    (shapeCast S1x1024 (multiReduction .add [0] S1024 p 0x00000000#32 reduces_S64x1024_S1024 (.inl rfl) rfl)
      shapeCasts_S1024_S1x1024)) broadcasts_S1x1024_S64x1024))

/-- The body's running sum is that. -/
theorem pay6_eq (v3 : Vec Ideal S64x2048 .f32) (v4 : Vec Ideal S1024x2048 .f32) (v7 : Vec Ideal S64x2048 .f32)
    (v8 : Vec Ideal S1024x2048 .f32) (a : Tile) : k0_pay6 v3 v4 v7 v8 a = added a (k0_pay5 v3 v4 v7 v8) := by
  unfold k0_pay6 added
  dsimp only
  rw [shapeCast_self]

/-- The block of weights after a point. -/
theorem outs_weights (c : Dev nD) (t : Fin cfg0.N) : (outsAt0 m c t.val t.isLt).1 = weights (tile m c t) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

/-- The block of row numbers after a point. -/
theorem outs_places (c : Dev nD) (t : Fin cfg0.N) : (outsAt0 m c t.val t.isLt).2.1 = places (tile m c t) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

/-- The running sum after the first point. -/
theorem outs_sum_first (c : Dev nD) (t : Fin cfg0.N) (h0 : t.val % 16 = 0) :
    (outsAt0 m c t.val t.isLt).2.2.2 = added k0_pay4 (tile m c t) := by
  rw [outsAt0_A m c t h0 (by omega)]
  frame_out
  exact pay6_eq _ _ _ _ _

/-- The running sum after a later point. -/
theorem outs_sum_next (c : Dev nD) (t : Fin cfg0.N) (h0 : ¬t.val % 16 = 0) :
    (outsAt0 m c t.val t.isLt).2.2.2
      = added (outsAt0 m c (t.val - 1) (Nat.lt_of_le_of_lt (Nat.sub_le _ _) t.isLt)).2.2.2 (tile m c t) := by
  by_cases h1 : t.val % 16 = 15
  · rw [outsAt0_C m c t h0 h1]
    frame_out
    simp only [read_unread_whole]
    exact pay6_eq _ _ _ _ _
  · rw [outsAt0_B m c t h0 h1]
    frame_out
    simp only [read_unread_whole]
    exact pay6_eq _ _ _ _ _

/-- The loss after the last point is taken from the running sum that the point leaves. -/
theorem outs_loss (c : Dev nD) (t : Fin cfg0.N) (h1 : t.val % 16 = 15) :
    (outsAt0 m c t.val t.isLt).2.2.1 = fun _ => k0_pay3 (outsAt0 m c t.val t.isLt).2.2.2 := by
  rw [outs_sum_next m c t (by omega), outsAt0_C m c t (by omega) h1]
  frame_out
  simp only [read_unread_whole]
  funext _
  rw [pay6_eq]
  rfl

end Cert.Router

end
-- ==== Proof.Spec.lean ====
/-
  The router in closed form, on the arguments as extended reals: the scores of a token, their exponentials, the rows that
  eight rounds name, the weights, and the mean share of every expert.
-/
module

public import proofs.«01_k».proof.Proof.Rounds
public import Idealize.ShloMosaic.PureOps.Ideal
public import Idealize.ShloMosaic.Lib.Pointwise

@[expose] public section

noncomputable section

namespace Cert.Router

open Idealize.ShloMosaic

/-- The tokens: 4 sequences of 4096 tokens of 4096 numbers. -/
abbrev Tokens := (⟨3, ![4, 4096, 4096]⟩ : Shape).Idx → EReal

/-- The gate: 64 experts' rows of 4096 numbers. -/
abbrev Gate := (⟨2, ![64, 4096]⟩ : Shape).Idx → EReal

/-- A token's score for an expert. -/
def score (x : Tokens) (w : Gate) (b : Fin 4) (s : Fin 4096) (e : Fin 64) : EReal :=
  ∑ k : Fin 4096, x (ix3 b s k) * w (ix2 e k)

/-- The exponential of the score less the token's greatest score. -/
def expo (x : Tokens) (w : Gate) (b : Fin 4) (s : Fin 4096) (e : Fin 64) : EReal :=
  Ideal.exp (score x w b s e - top (score x w b s))

/-- The sum of a token's exponentials. -/
def total (x : Tokens) (w : Gate) (b : Fin 4) (s : Fin 4096) : EReal := ∑ e : Fin 64, expo x w b s e

/-- The expert that round `r` names for a token. -/
def expert (x : Tokens) (w : Gate) (b : Fin 4) (s : Fin 4096) (r : Fin 8) : Fin 64 := pick (expo x w b s) r.val

/-- The `r`-th weight of a token: the named expert's exponential over the sum of the eight named ones. -/
def weight (x : Tokens) (w : Gate) (b : Fin 4) (s : Fin 4096) (r : Fin 8) : EReal :=
  expo x w b s (expert x w b s r) * Ideal.div 1 (∑ q : Fin 8, expo x w b s (expert x w b s q))

/-- An expert's summed share of all tokens. -/
def shares (x : Tokens) (w : Gate) (e : Fin 64) : EReal :=
  ∑ b : Fin 4, ∑ s : Fin 4096, expo x w b s e * Ideal.div 1 (total x w b s)

/-- The loss, from the experts' summed shares: mean share times the logarithm of (mean share by 1/64, plus a small
    number), summed. -/
def loss (u : Fin 64 → EReal) : EReal :=
  ∑ e : Fin 64, Ideal.div (u e) (Ideal.ofBits .f32 0x46800000#32)
    * Ideal.log (Ideal.div (u e) (Ideal.ofBits .f32 0x46800000#32) * 64 + Ideal.ofBits .f32 0x322BCC77#32)

/-- The sequence that a grid point's tokens belong to. -/
def batch (t : Fin 16) : Fin 4 := ⟨t.val / 4, by omega⟩

/-- The place in its sequence of a grid point's `l`-th token. -/
def place (t : Fin 16) (l : Fin 1024) : Fin 4096 := ⟨t.val % 4 * 1024 + l.val, by omega⟩

end Cert.Router

end
-- ==== Proof.Blocks.lean ====
/-
  The blocks a grid point reads, as the arguments: the tile of exponentials that the point computes is the tokens' own.
-/
module

public import proofs.«01_k».proof.Proof.Body
public import proofs.«01_k».proof.Proof.Spec

@[expose] public section

set_option maxRecDepth 16384

noncomputable section

open Idealize.ShloMosaic Idealize.ShloMosaic.TcCoe Idealize.SL.Sem

namespace Cert.Router

open Cert.KernelIdeal Cert.KernelIdeal.Gen

variable (m : (ℓ : Loc nD τ sig) → Buf (Elt Ideal) ℓ)

/-- Every window's block index at every point. -/
theorem idx : ∀ t : Fin cfg0.N, win0_0.index t = ![t.val, 0] ∧ win0_1.index t = ![t.val, 1] ∧ win0_2.index t = ![0, 0]
    ∧ win0_3.index t = ![0, t.val] ∧ win0_4.index t = ![0, t.val] ∧ win0_5.index t = ![0, 0] :=
  (by decide +kernel : ∀ t : Fin grid0.N, _)

/-- The tokens argument. -/
abbrev argX (c : Dev nD) : Tokens := m ((c : Thread nD τ).loc main_arg0)

/-- The gate argument. -/
abbrev argW (c : Dev nD) : Gate := m ((c : Thread nD τ).loc main_arg1)

/-- The array that the token windows read is the tokens argument, reshaped. -/
theorem entry_tokens (c : Dev nD) :
    V m c main_v0 = shapeCast S16384x4096 (argX m c) shapeCasts_S4x4096x4096_S16384x4096 := by
  show StableHlo.after hostOps0 (fun b => m (c, b)) (Proc.devRef .tc main_v0) = _
  entry_read
  rfl

/-- The first half of a token's numbers, as the point reads it. -/
theorem read_left (c : Dev nD) (t : Fin cfg0.N) (l : Fin 1024) (k : Fin 2048) :
    iblk m c 0 t (ix2 l k) = argX m c (ix3 (batch t) (place t l) (Fin.castAdd 2048 k)) := by
  show V m c main_v0 _ = _
  rw [entry_tokens]
  pointwise
  blk_ext [idx t, batch, place]
  rfl

/-- The second half. -/
theorem read_right (c : Dev nD) (t : Fin cfg0.N) (l : Fin 1024) (k : Fin 2048) :
    iblk m c 1 t (ix2 l k) = argX m c (ix3 (batch t) (place t l) (Fin.natAdd 2048 k)) := by
  show V m c main_v0 _ = _
  rw [entry_tokens]
  pointwise
  blk_ext [idx t, batch, place]
  rfl

/-- The first half of the gate. -/
theorem gate_left (c : Dev nD) (t : Fin cfg0.N) (e : Fin 64) (k : Fin 2048) :
    View.ld (iblk m c 2 t) (Rect.unit ![0, 0] ![64, 2048] inb_S64x4096_S64x2048_0_0) (ix2 e k)
      = argW m c (ix2 e (Fin.castAdd 2048 k)) := by
  blk_ext! [iblk, V, idx t]
  rfl

/-- The second half of the gate. -/
theorem gate_right (c : Dev nD) (t : Fin cfg0.N) (e : Fin 64) (k : Fin 2048) :
    View.ld (iblk m c 2 t) (Rect.unit ![0, 2048] ![64, 2048] inb_S64x4096_S64x2048_0_2048) (ix2 e k)
      = argW m c (ix2 e (Fin.natAdd 2048 k)) := by
  blk_ext! [iblk, V, idx t]
  rfl

/-- A sum over 4096 numbers is the sum over each half. -/
theorem sum_halves (f : Fin 4096 → EReal) :
    ∑ k, f k = ∑ k : Fin 2048, f (Fin.castAdd 2048 k) + ∑ k : Fin 2048, f (Fin.natAdd 2048 k) :=
  Fin.sum_univ_add (a := 2048) (b := 2048) f

/-- A column of the exponentials of two products' sum, where the factors are known. -/
theorem col_pay5 (x : Tokens) (w : Gate) (b : Fin 4) (s : Fin 4096) (l : Fin 1024)
    (v3 : FVec Ideal S64x2048 .f32) (v4 : FVec Ideal S1024x2048 .f32) (v7 : FVec Ideal S64x2048 .f32)
    (v8 : FVec Ideal S1024x2048 .f32)
    (h3 : ∀ (e : Fin 64) (k : Fin 2048), v3 (ix2 e k) = w (ix2 e (Fin.castAdd 2048 k)))
    (h4 : ∀ k : Fin 2048, v4 (ix2 l k) = x (ix3 b s (Fin.castAdd 2048 k)))
    (h7 : ∀ (e : Fin 64) (k : Fin 2048), v7 (ix2 e k) = w (ix2 e (Fin.natAdd 2048 k)))
    (h8 : ∀ k : Fin 2048, v8 (ix2 l k) = x (ix3 b s (Fin.natAdd 2048 k))) :
    col (k0_pay5 (F := Ideal) v3 v4 v7 v8) l = expo x w b s := by
  have key : ∀ e : Fin 64, (∑ k : Fin 2048, v3 (ix2 e k) * v4 (ix2 l k)) + (∑ k : Fin 2048, v7 (ix2 e k) * v8 (ix2 l k))
      = score x w b s e := fun e => by
    unfold score
    rw [sum_halves]
    refine congrArg₂ (· + ·) (Finset.sum_congr rfl fun k _ => ?_) (Finset.sum_congr rfl fun k _ => ?_)
    · rw [h3, h4, mul_comm]
    · rw [h7, h8, mul_comm]
  funext e
  show k0_pay5 (F := Ideal) v3 v4 v7 v8 (ix2 e l) = _
  unfold k0_pay5 expo
  pointwise
  simp only [key]
  rw [ofBits_bot, ← fold_max_eq_top]

/-- A column of the point's tile is its token's exponentials. -/
theorem col_tile (c : Dev nD) (t : Fin cfg0.N) (l : Fin 1024) :
    col (tile m c t) l = expo (argX m c) (argW m c) (batch t) (place t l) :=
  col_pay5 _ _ _ _ _ _ _ _ _ (gate_left m c t) (read_left m c t l) (gate_right m c t) (read_right m c t l)

end Cert.Router

end
-- ==== Proof.Arrays.lean ====
/-
  The three arrays that the idealized kernel's launch leaves, in closed form.
-/
module

public import proofs.«01_k».proof.Proof.Blocks

@[expose] public section

set_option maxRecDepth 16384

noncomputable section

open Idealize.ShloMosaic Idealize.ShloMosaic.TcCoe Idealize.SL.Sem

namespace Cert.Router

open Cert.KernelIdeal Cert.KernelIdeal.Gen

/-- No exponential is negative. -/
theorem exp_nonneg (x : EReal) : 0 ≤ Ideal.exp x := by
  induction x using EReal.rec with
  | bot => exact le_refl _
  | top => exact _root_.le_top
  | coe r => exact EReal.coe_nonneg.mpr (Real.exp_pos r).le

/-- A token's exponentials are not negative. -/
theorem expo_nonneg (x : Tokens) (w : Gate) (b : Fin 4) (s : Fin 4096) (e : Fin 64) : 0 ≤ expo x w b s e := exp_nonneg _

/-- A block of weights at an index. -/
theorem weights_apply (p : Tile) (r : Fin 8) (l : Fin 1024) (hp : ∀ i, 0 ≤ col p l i) :
    weights p (ix2 r l) = col p l (pick (col p l) r.val) * Ideal.div 1 (∑ q : Fin 8, col p l (pick (col p l) q.val)) := by
  unfold weights k0_pay1
  pointwise [k0_pay34]
  simp only [maxima_apply p _ l hp, Ideal.ofBits_one_f32]

/-- A running sum at an index, one tile later. -/
theorem added_apply (a p : Tile) (e : Fin 64) (l : Fin 1024) :
    added a p (ix2 e l) = a (ix2 e l) + col p l e * Ideal.div 1 (∑ i : Fin 64, col p l i) := by
  unfold added
  pointwise
  rfl

/-- The loss of a finished running sum. -/
theorem pay3_eq (a : Tile) : k0_pay3 (F := Ideal) a = loss fun e => ∑ l : Fin 1024, a (ix2 e l) := by
  unfold k0_pay3 loss
  pointwise
  rw [ofBits_64]
  exact Finset.sum_congr rfl fun e _ => Fintype.sum_unique _

variable (m : (ℓ : Loc nD τ sig) → Buf (Elt Ideal) ℓ)

/-- A point's block of weights is its tokens' weights. -/
theorem weights_tile (c : Dev nD) (t : Fin cfg0.N) (r : Fin 8) (l : Fin 1024) :
    weights (tile m c t) (ix2 r l) = weight (argX m c) (argW m c) (batch t) (place t l) r := by
  rw [weights_apply _ _ _ fun i => by rw [col_tile]; exact expo_nonneg _ _ _ _ _]
  simp only [col_tile]
  rfl

/-- A point's block of row numbers is its tokens' experts. -/
theorem places_tile (c : Dev nD) (t : Fin cfg0.N) (r : Fin 8) (l : Fin 1024) :
    places (tile m c t) (ix2 r l) = BitVec.ofNat 32 (expert (argX m c) (argW m c) (batch t) (place t l) r).val := by
  rw [places_apply, col_tile]
  rfl

/-- The weights array after the launch: line `r`, token `n`. -/
theorem final_weights (c : Dev nD) : (dats m 0 c).arrAt 3 cfg0.N
    = fun j : S8x16384.Idx => weight (argX m c) (argW m c) ⟨(j 1).val / 4096, by have := (j 1).isLt; simp at this; omega⟩
        ⟨(j 1).val % 4096, Nat.mod_lt _ (by omega)⟩ (j 0) := by
  refine (dats m 0 c).arrAt_eq_of_covers 3 _ (by decide +kernel) fun t hf y => ?_
  blk_simp
  rw [after0_3, outs_weights]
  idx_vars y
  rw [weights_tile]
  congr 1
  · apply Fin.ext
    blk_simp [idx t, batch]
    show t.val / 4 = (t.val * 1024 + y1.val) / 4096
    omega
  · apply Fin.ext
    blk_simp [idx t, place]
    show t.val % 4 * 1024 + y1.val = (t.val * 1024 + y1.val) % 4096
    omega
  · apply Fin.ext
    blk_simp [idx t]

/-- The experts array after the launch. -/
theorem final_places (c : Dev nD) : (dats m 0 c).arrAt 4 cfg0.N
    = fun j : S8x16384.Idx => BitVec.ofNat 32 (expert (argX m c) (argW m c) ⟨(j 1).val / 4096, by have := (j 1).isLt; simp at this; omega⟩
        ⟨(j 1).val % 4096, Nat.mod_lt _ (by omega)⟩ (j 0)).val := by
  refine (dats m 0 c).arrAt_eq_of_covers 4 _ (by decide +kernel) fun t hf y => ?_
  blk_simp
  rw [after0_4, outs_places]
  idx_vars y
  rw [places_tile]
  congr 3
  · apply Fin.ext
    blk_simp [idx t, batch]
    show t.val / 4 = (t.val * 1024 + y1.val) / 4096
    omega
  · apply Fin.ext
    blk_simp [idx t, place]
    show t.val % 4 * 1024 + y1.val = (t.val * 1024 + y1.val) % 4096
    omega
  · apply Fin.ext
    blk_simp [idx t]

/-- The running sum after the last point. -/
theorem last_sum (c : Dev nD) (e : Fin 64) (l : Fin 1024) : (outsAt0 m c t0_15.val t0_15.isLt).2.2.2 (ix2 e l)
    = ∑ t : Fin 16, expo (argX m c) (argW m c) (batch t) (place t l) e
        * Ideal.div 1 (total (argX m c) (argW m c) (batch t) (place t l)) := by
  have h := Pipeline.eq_sum_fin_of_reset_step_apply_last (N := cfg0.N) (fun n h => (outsAt0 m c n h).2.2.2) 16
    (fun _ => (0 : EReal)) (fun (t : Fin cfg0.N) (i : S64x1024.Idx) => expo (argX m c) (argW m c) (batch t) (place t (i 1)) (i 0)
        * Ideal.div 1 (total (argX m c) (argW m c) (batch t) (place t (i 1))))
    (fun t h0 i => by
      idx_vars i
      rw [outs_sum_first m c t h0, added_apply, col_tile]
      rw [show k0_pay4 (F := Ideal) (ix2 i0 i1) = 0 from by unfold k0_pay4; pointwise]
      rfl)
    (fun t h0 i => by
      idx_vars i
      rw [outs_sum_next m c t h0, added_apply, col_tile]
      rfl) (by decide +kernel) t0_15 (by decide +kernel) (ix2 e l)
  rw [h, zero_add]
  rfl

/-- The loss array after the launch. -/
theorem final_loss (c : Dev nD) : (dats m 0 c).arrAt 5 cfg0.N = fun _ => loss (shares (argX m c) (argW m c)) := by
  refine (dats m 0 c).arrAt_eq_of_after_last 5 t0_15 (by decide +kernel) _ fun j => ?_
  blk_simp
  rw [after0_5, outs_loss m c t0_15 (by decide +kernel), pay3_eq]
  simp only [last_sum]
  refine congrArg loss (funext fun e => ?_)
  rw [Finset.sum_comm]
  exact Fin.sum_points_lanes_fin (N := 16) (n := 1024) (A := 4) (L := 4096) 4
    (fun b s => expo (argX m c) (argW m c) b s e * Ideal.div 1 (total (argX m c) (argW m c) b s))

end Cert.Router

end
-- ==== Proof.Tail.lean ====
/-
  What the host's lines after the launch make of the kernel's three arrays: the two result arrays are transposed and
  split into batches, the loss becomes a scalar.
-/
module

public import proofs.«01_k».proof.Proof.Arrays
public import Idealize.ShloMosaic.Lib.Claim

@[expose] public section

set_option maxRecDepth 16384

noncomputable section

open Idealize.ShloMosaic Idealize.ShloMosaic.TcCoe Idealize.SL.Sem

namespace Cert.Router

open Cert.KernelIdeal Cert.KernelIdeal.Gen

variable (m : (ℓ : Loc nD τ sig) → Buf (Elt Ideal) ℓ)

/-- The contents that the launch leaves. -/
def left (c : Dev nD) : Valuation τ sig (Elt Ideal) :=
  Pipeline.withArrays spec0 c (V0 m c) fun w => (dats m 0 c).arrAt w cfg0.N

/-- Each window's array is left as its last contents. -/
theorem left_arr (c : Dev nD) (w : Fin cfg0.W) :
    left m c (Proc.devRef .tc (Pipeline.arrRef spec0 w)) = (dats m 0 c).arrAt w cfg0.N :=
  (dats m 0 c).withArrays_arrAt (by decide) (V0 m c) (fun w => A_eq m c w) w

/-- An array of 8 rows, transposed and split into batches of 4096, at an index. -/
theorem split_apply {α : Type} (y : S8x16384.Idx → α) (ht : S8x16384.Transposes [1, 0] S16384x8)
    (hc : S16384x8.ShapeCasts S4x4096x8) (b : Fin 4) (s : Fin 4096) (r : Fin 8) :
    shapeCast S4x4096x8 (transpose S16384x8 [1, 0] y ht) hc (ix3 b s r) = y (ix2 r ⟨b.val * 4096 + s.val, by omega⟩) := by
  pointwise

/-- The token's batch and place, from its number. -/
theorem token_split (b : Fin 4) (s : Fin 4096) (h : (b.val * 4096 + s.val) / 4096 < 4)
    (h' : (b.val * 4096 + s.val) % 4096 < 4096) :
    (⟨(b.val * 4096 + s.val) / 4096, h⟩ : Fin 4) = b ∧ (⟨(b.val * 4096 + s.val) % 4096, h'⟩ : Fin 4096) = s :=
  ⟨Fin.ext (show (b.val * 4096 + s.val) / 4096 = b.val by omega), Fin.ext (show (b.val * 4096 + s.val) % 4096 = s.val by omega)⟩

/-- The weights: transposed, and split into batches. -/
theorem tail_weights (c : Dev nD) (b : Fin 4) (s : Fin 4096) (r : Fin 8) :
    Pipeline.afterTail₀ cfgs (dats m) 0 (V0 m) [hostOps1] c main_v3 (ix3 b s r)
      = weight (argX m c) (argW m c) b s r := by
  have h : left m c (Proc.devRef .tc main_v1_0) = _ := (left_arr m c 3).trans (final_weights m c)
  show StableHlo.after hostOps1 (left m c) (Proc.devRef .tc main_v3) (ix3 b s r) = _
  generalize left m c = W at h
  unfold hostOps1
  after_results
  rw [h]
  refine (split_apply _ _ _ b s r).trans ?_
  show weight (argX m c) (argW m c) ⟨(b.val * 4096 + s.val) / 4096, by omega⟩ ⟨(b.val * 4096 + s.val) % 4096, by omega⟩ r = _
  rw [(token_split b s (by omega) (by omega)).1, (token_split b s (by omega) (by omega)).2]

/-- The places: transposed, and split into batches. -/
theorem tail_places (c : Dev nD) (b : Fin 4) (s : Fin 4096) (r : Fin 8) :
    Pipeline.afterTail₀ cfgs (dats m) 0 (V0 m) [hostOps1] c main_v5 (ix3 b s r)
      = BitVec.ofNat 32 (expert (argX m c) (argW m c) b s r).val := by
  have h : left m c (Proc.devRef .tc main_v1_1) = _ := (left_arr m c 4).trans (final_places m c)
  show StableHlo.after hostOps1 (left m c) (Proc.devRef .tc main_v5) (ix3 b s r) = _
  generalize left m c = W at h
  unfold hostOps1
  after_results
  rw [h]
  refine (split_apply _ _ _ b s r).trans ?_
  show BitVec.ofNat 32 (expert (argX m c) (argW m c) ⟨(b.val * 4096 + s.val) / 4096, by omega⟩
    ⟨(b.val * 4096 + s.val) % 4096, by omega⟩ r).val = _
  rw [(token_split b s (by omega) (by omega)).1, (token_split b s (by omega) (by omega)).2]

/-- The loss, as a scalar. -/
theorem tail_loss (c : Dev nD) (j : S_.Idx) :
    Pipeline.afterTail₀ cfgs (dats m) 0 (V0 m) [hostOps1] c main_v6 j = loss (shares (argX m c) (argW m c)) := by
  have h : left m c (Proc.devRef .tc main_v1_2) = _ := (left_arr m c 5).trans (final_loss m c)
  show StableHlo.after hostOps1 (left m c) (Proc.devRef .tc main_v6) j = _
  generalize left m c = W at h
  unfold hostOps1
  after_results
  rw [h]
  rfl

end Cert.Router

end
-- ==== Proof.Finite.lean ====
/-
  Finite arguments: every score is a real number, every exponential a positive one, so the sums that the two programs
  divide by are positive reals, and the two ways of normalising agree.
-/
module

public import proofs.«01_k».proof.Proof.Spec
public import Idealize.ShloMosaic.Lib.IdealHost

@[expose] public section

noncomputable section

namespace Cert.Router

open Idealize.ShloMosaic

/-- Every entry is a real number. -/
def AllReal {ι : Type} (x : ι → EReal) : Prop := ∀ i, ∃ r : ℝ, x i = (r : EReal)

/-- A finite sum of reals, as an extended real. -/
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

variable {x : Tokens} {w : Gate}

/-- A score of real arguments is real. -/
theorem score_real (hx : AllReal x) (hw : AllReal w) (b : Fin 4) (s : Fin 4096) : AllReal (score x w b s) := by
  choose fx hfx using hx
  choose fw hfw using hw
  intro e
  refine ⟨∑ k : Fin 4096, fx (ix3 b s k) * fw (ix2 e k), ?_⟩
  unfold score
  rw [coe_sum]
  exact Finset.sum_congr rfl fun k _ => by rw [hfx, hfw, EReal.coe_mul]

/-- The exponentials of a token of real arguments are positive reals. -/
theorem expo_real (hx : AllReal x) (hw : AllReal w) (b : Fin 4) (s : Fin 4096) :
    ∃ p : Fin 64 → ℝ, (∀ e, 0 < p e) ∧ ∀ e, expo x w b s e = (p e : EReal) := by
  have hs := score_real hx hw b s
  choose f hf using hs
  obtain ⟨g, hg⟩ := exists_top (score x w b s)
  refine ⟨fun e => Real.exp (f e - f g), fun e => Real.exp_pos _, fun e => ?_⟩
  unfold expo
  rw [← hg, hf, hf, ← EReal.coe_sub]
  rfl

/-- Dividing by a real that is not 0 is multiplying by its inverse. -/
theorem div_real (y : EReal) (r : ℝ) (hr : r ≠ 0) : Ideal.div y (r : EReal) = y * ((1 / r : ℝ) : EReal) :=
  Ideal.div_coe hr y

/-- Dividing by a real that is not 0 is multiplying by one over it. -/
theorem div_eq_mul_div_one (y : EReal) (r : ℝ) (hr : r ≠ 0) : Ideal.div y (r : EReal) = y * Ideal.div 1 (r : EReal) := by
  rw [div_real y r hr, div_real 1 r hr, one_mul]

/-- A token's share for an expert: its exponential over the sum of all 64. -/
def share (x : Tokens) (w : Gate) (b : Fin 4) (s : Fin 4096) (e : Fin 64) : EReal :=
  Ideal.div (expo x w b s e) (total x w b s)

/-- A share is the exponential times one over the sum. -/
theorem share_eq (hx : AllReal x) (hw : AllReal w) (b : Fin 4) (s : Fin 4096) (e : Fin 64) :
    share x w b s e = expo x w b s e * Ideal.div 1 (total x w b s) := by
  obtain ⟨p, hp, he⟩ := expo_real hx hw b s
  have ht : total x w b s = ((∑ i, p i : ℝ) : EReal) := by
    unfold total
    rw [coe_sum]
    exact Finset.sum_congr rfl fun i _ => he i
  have h0 : (∑ i, p i) ≠ 0 := (Finset.sum_pos (fun i _ => hp i) ⟨0, Finset.mem_univ _⟩).ne'
  unfold share
  rw [ht]
  exact div_eq_mul_div_one _ _ h0

/-- Shares are ordered as the exponentials are. -/
theorem share_lt (hx : AllReal x) (hw : AllReal w) (b : Fin 4) (s : Fin 4096) (k k' : Fin 64) :
    share x w b s k' < share x w b s k ↔ expo x w b s k' < expo x w b s k := by
  obtain ⟨p, hp, he⟩ := expo_real hx hw b s
  have ht : total x w b s = ((∑ i, p i : ℝ) : EReal) := by
    unfold total
    rw [coe_sum]
    exact Finset.sum_congr rfl fun i _ => he i
  have h0 : 0 < (∑ i, p i) := Finset.sum_pos (fun i _ => hp i) ⟨0, Finset.mem_univ _⟩
  unfold share
  rw [ht, div_real _ _ h0.ne', div_real _ _ h0.ne', he, he, ← EReal.coe_mul, ← EReal.coe_mul, EReal.coe_lt_coe_iff,
    EReal.coe_lt_coe_iff]
  exact mul_lt_mul_iff_left₀ (one_div_pos.mpr h0)

/-- Shares of the eight named experts, renormalised, are the weights. -/
theorem weight_eq (hx : AllReal x) (hw : AllReal w) (b : Fin 4) (s : Fin 4096) (r : Fin 8) :
    Ideal.div (share x w b s (expert x w b s r)) (∑ q : Fin 8, share x w b s (expert x w b s q)) = weight x w b s r := by
  obtain ⟨p, hp, he⟩ := expo_real hx hw b s
  have ht : total x w b s = ((∑ i, p i : ℝ) : EReal) := by
    unfold total
    rw [coe_sum]
    exact Finset.sum_congr rfl fun i _ => he i
  have h0 : 0 < (∑ i, p i) := Finset.sum_pos (fun i _ => hp i) ⟨0, Finset.mem_univ _⟩
  have hsh : ∀ e, share x w b s e = ((p e * (1 / ∑ i, p i) : ℝ) : EReal) := fun e => by
    unfold share
    rw [ht, div_real _ _ h0.ne', he, EReal.coe_mul]
  have hv : 0 < ∑ q : Fin 8, p (expert x w b s q) := Finset.sum_pos (fun q _ => hp _) ⟨0, Finset.mem_univ _⟩
  unfold weight
  simp only [hsh, he]
  rw [← coe_sum, ← coe_sum, ← Finset.sum_mul, div_real _ _ hv.ne', one_mul,
    div_real _ _ (mul_pos hv (one_div_pos.mpr h0)).ne', ← EReal.coe_mul, ← EReal.coe_mul]
  congr 1
  have := h0.ne'
  have := hv.ne'
  field_simp

end Cert.Router

end
-- ==== Proof.Sorted.lean ====
/-
  The reference's eight greatest shares of a token: where the stable sort finds them.
-/
module

public import proofs.«01_k».proof.Proof.Gen.ReferenceIdeal.Run
public import Idealize.ShloMosaic.Lib.Pipeline.ValueKit

@[expose] public section

set_option maxRecDepth 16384

noncomputable section

open Idealize.ShloMosaic

namespace Cert.Router

open Cert.ReferenceIdeal Cert.ReferenceIdeal.Gen

/-- The reference's eight greatest of every row. -/
def refTop (a : FVec Ideal S4x4096x64 .f32) : FVec Ideal S4x4096x8 .f32 × IVec S4x4096x8 32 :=
  Host.topK S4x4096x8 2 (FloatOps.cmpfTotal .gt) a sliceFits_S4x4096x64_S4x4096x8

/-- Where a stable sort by "greater" finds the `r`-th greatest entry of a row. -/
def source (a : FVec Ideal S4x4096x64 .f32) (b : Fin 4) (s : Fin 4096) (r : Fin 8) : Fin 64 :=
  sortedFrom (fun k k' => FloatOps.cmpfTotal (F := Ideal) .gt (a (ix3 b s k)) (a (ix3 b s k')) == 1#1) (r.castLE (by omega))

/-- A position of a row, moved along the row. -/
theorem along_row (i : S4x4096x64.Idx) (b : Fin 4) (s : Fin 4096) (hb : (i 0).val = b.val) (hs : (i 1).val = s.val)
    (h : 2 < S4x4096x64.rank) (k : Fin 64) : i.along ⟨2, h⟩ k = ix3 b s k := by
  funext a
  fin_cases a
  · exact Fin.ext hb
  · exact Fin.ext hs
  · rfl

/-- Equal orders sort alike. -/
theorem sortedFrom_congr {n : ℕ} (R R' : Fin n → Fin n → Bool) (h : R = R') (i i' : Fin n) (hi : i = i') :
    sortedFrom R i = sortedFrom R' i' := by
  rw [h, hi]

/-- The source of a sorted row's entry, whatever index names the row. -/
theorem source_eq (a : FVec Ideal S4x4096x64 .f32) (i : S4x4096x64.Idx) (b : Fin 4) (s : Fin 4096) (r : Fin 8)
    (hb : (i 0).val = b.val) (hs : (i 1).val = s.val) (hr : (i 2).val = r.val) (h : 2 < S4x4096x64.rank) :
    sortedFrom (fun k k' => FloatOps.cmpfTotal (F := Ideal) .gt (a (i.along ⟨2, h⟩ k)) (a (i.along ⟨2, h⟩ k')) == 1#1)
      (i ⟨2, h⟩) = source a b s r := by
  unfold source
  refine sortedFrom_congr (n := 64) _ _ ?_ _ _ (Fin.ext hr)
  funext k k'
  rw [along_row i b s hb hs h k, along_row i b s hb hs h k']

/-- The position of the sorted row that a slice from its start reads. -/
def corner (b : Fin 4) (s : Fin 4096) (r : Fin 8) : S4x4096x64.Idx := ix3 b s (Fin.castLE (by decide : 8 ≤ 64) r)

/-- A slice from the start of every axis reads the same coordinates. -/
theorem slice_corner {α : Type} (y : S4x4096x64.Idx → α) (b : Fin 4) (s : Fin 4096) (r : Fin 8) :
    extractStridedSlice S4x4096x8 (fun _ => 0) y sliceFits_S4x4096x64_S4x4096x8 (ix3 b s r) = y (corner b s r) := by
  unfold extractStridedSlice
  refine congrArg y ?_
  funext a
  fin_cases a
  · exact Fin.ext (Nat.zero_add _)
  · exact Fin.ext (Nat.zero_add _)
  · exact Fin.ext (Nat.zero_add _)

/-- The `r`-th greatest entry of a row, by its source. -/
theorem refTop_value (a : FVec Ideal S4x4096x64 .f32) (b : Fin 4) (s : Fin 4096) (r : Fin 8) :
    (refTop a).1 (ix3 b s r) = a (ix3 b s (source a b s r)) := by
  have h : 2 < S4x4096x64.rank := by decide
  unfold refTop Host.topK Host.sort2
  simp only [dif_pos h]
  rw [slice_corner, source_eq a (corner b s r) b s r rfl rfl rfl h, along_row (corner b s r) b s rfl rfl h]

/-- The `r`-th greatest entry's position. -/
theorem refTop_index (a : FVec Ideal S4x4096x64 .f32) (b : Fin 4) (s : Fin 4096) (r : Fin 8) :
    (refTop a).2 (ix3 b s r) = BitVec.ofNat 32 (source a b s r).val := by
  have h : 2 < S4x4096x64.rank := by decide
  unfold refTop Host.topK Host.sort2
  simp only [dif_pos h]
  rw [slice_corner, source_eq a (corner b s r) b s r rfl rfl rfl h]
  generalize source a b s r = k
  rw [along_row (corner b s r) b s rfl rfl h]
  rfl

end Cert.Router

end
-- ==== Proof.Reference.lean ====
/-
  The reference's results on finite arguments, in the closed form of Spec.lean.
-/
module

public import proofs.«01_k».proof.Proof.Finite
public import proofs.«01_k».proof.Proof.Folds
public import proofs.«01_k».proof.Proof.Words
public import proofs.«01_k».proof.Proof.Sorted
public import proofs.«01_k».proof.Proof.Gen.ReferenceIdeal.Run
public import Idealize.ShloMosaic.Lib.Pipeline.ValueKit

@[expose] public section

set_option maxRecDepth 16384

noncomputable section

open Idealize.ShloMosaic

namespace Cert.Router

open Cert.ReferenceIdeal Cert.ReferenceIdeal.Gen

/-- The reference's scores. -/
def refScore (x : FVec Ideal S4x4096x4096 .f32) (w : FVec Ideal S64x4096 .f32) : FVec Ideal S4x4096x64 .f32 :=
  Host.dotGeneral dot_S4x4096x4096_S64x4096_S4x4096x64_2_1_01_0_n_n none x w

/-- The reference's exponentials, of scores. -/
def refExpo (z : FVec Ideal S4x4096x64 .f32) : FVec Ideal S4x4096x64 .f32 :=
  Host.exp (subf z (broadcastInDim S4x4096x64 ![0, 1, 2] bcast_S4x4096x1_S4x4096x64_0_1_2
    (broadcastInDim S4x4096x1 ![0, 1] bcast_S4x4096_S4x4096x1_0_1 (maximumf (broadcastInDim S4x4096 ![] bcast_S_S4x4096
      (constant S_ .f32 0xFF800000#32)) (Host.reduce FloatOps.maximumf z (constant S_ .f32 0xFF800000#32)
        reducesTo_S4x4096x64_S4x4096_d2 h_S_)))))

/-- The reference's shares, of exponentials. -/
def refShare (p : FVec Ideal S4x4096x64 .f32) : FVec Ideal S4x4096x64 .f32 :=
  Host.divf p (broadcastInDim S4x4096x64 ![0, 1, 2] bcast_S4x4096x1_S4x4096x64_0_1_2
    (broadcastInDim S4x4096x1 ![0, 1] bcast_S4x4096_S4x4096x1_0_1
      (Host.reduceAdd p (constant S_ .f32 0x00000000#32) reducesTo_S4x4096x64_S4x4096_d2 h_S_)))

/-- The reference's weights, of the eight greatest. -/
def refWeight (v : FVec Ideal S4x4096x8 .f32) : FVec Ideal S4x4096x8 .f32 :=
  Host.divf v (broadcastInDim S4x4096x8 ![0, 1, 2] bcast_S4x4096x1_S4x4096x8_0_1_2
    (broadcastInDim S4x4096x1 ![0, 1] bcast_S4x4096_S4x4096x1_0_1
      (Host.reduceAdd v (constant S_ .f32 0x00000000#32) reducesTo_S4x4096x8_S4x4096_d2 h_S_)))

/-- The reference's mean shares. -/
def refMean (a : FVec Ideal S4x4096x64 .f32) : FVec Ideal S64 .f32 :=
  Host.divf (Host.reduceAdd a (constant S_ .f32 0x00000000#32) reducesTo_S4x4096x64_S64_d0_1 h_S_)
    (broadcastInDim S64 ![] bcast_S_S64 (constant S_ .f32 0x46800000#32))

/-- The reference's loss, of mean shares. -/
def refLoss (u : FVec Ideal S64 .f32) : FVec Ideal S_ .f32 :=
  Host.reduceAdd (mulf u (Host.log (addf (Host.divf u (Host.divf
    (broadcastInDim S64 ![] bcast_S_S64 (constant S_ .f32 0x3F800000#32))
    (broadcastInDim S64 ![] bcast_S_S64 (constant S_ .f32 0x42800000#32))))
    (broadcastInDim S64 ![] bcast_S_S64 (constant S_ .f32 0x322BCC77#32))))) (constant S_ .f32 0x00000000#32)
    reducesTo_S64_S_d0 h_S_

/-- A score of the reference. -/
theorem refScore_apply (x : Tokens) (w : Gate) (b : Fin 4) (s : Fin 4096) (e : Fin 64) :
    refScore x w (ix3 b s e) = score x w b s e := by
  unfold refScore score
  pointwise

/-- An exponential of the reference. -/
theorem refExpo_apply (x : Tokens) (w : Gate) (b : Fin 4) (s : Fin 4096) (e : Fin 64) :
    refExpo (refScore x w) (ix3 b s e) = expo x w b s e := by
  unfold refExpo expo
  pointwise
  simp only [refScore_apply]
  rw [ofBits_bot, fold_max_eq_top, max_eq_right bot_le]

/-- A share of the reference. -/
theorem refShare_apply (x : Tokens) (w : Gate) (b : Fin 4) (s : Fin 4096) (e : Fin 64) :
    refShare (refExpo (refScore x w)) (ix3 b s e) = share x w b s e := by
  unfold refShare share total
  pointwise
  simp only [refExpo_apply]

/-- The weights, of the eight greatest. -/
theorem refWeight_apply (v : FVec Ideal S4x4096x8 .f32) (b : Fin 4) (s : Fin 4096) (r : Fin 8) :
    refWeight v (ix3 b s r) = Ideal.div (v (ix3 b s r)) (∑ q : Fin 8, v (ix3 b s q)) := by
  unfold refWeight
  pointwise

/-- A sum over tokens. -/
theorem sum_tokens (a : S4x4096x64.Idx → EReal) (e : Fin 64) :
    Ideal.hostReduceAdd reducesTo_S4x4096x64_S64_d0_1 a 0 (ix1 e) = ∑ b : Fin 4, ∑ s : Fin 4096, a (ix3 b s e) := by
  have hd : ∀ i : S4x4096x64.Idx, (reducesTo_S4x4096x64_S64_d0_1.drop i 0).val = (i 2).val := fun i => rfl
  unfold Ideal.hostReduceAdd
  rw [zero_add, ← Finset.sum_product']
  symm
  refine Finset.sum_bij (fun q _ => ix3 q.1 q.2 e) (fun q _ => ?_) (fun q _ q' _ h => ?_) (fun i hi => ?_) (fun q _ => rfl)
  · refine Finset.mem_filter.mpr ⟨Finset.mem_univ _, ?_⟩
    funext t
    fin_cases t
    exact Fin.ext (hd _)
  · exact Prod.ext (congrFun h 0) (congrFun h 1)
  · have h2 := congrArg Fin.val (congrFun (Finset.mem_filter.mp hi).2 0)
    rw [hd] at h2
    refine ⟨(i 0, i 1), Finset.mem_univ _, ?_⟩
    funext t
    fin_cases t
    · rfl
    · rfl
    · exact (Fin.ext h2).symm

/-- A mean share. -/
theorem refMean_apply (a : FVec Ideal S4x4096x64 .f32) (e : Fin 64) :
    refMean a (ix1 e) = Ideal.div (∑ b : Fin 4, ∑ s : Fin 4096, a (ix3 b s e)) (Ideal.ofBits .f32 0x46800000#32) := by
  unfold refMean
  pointwise
  rw [sum_tokens]

/-- The loss. -/
theorem refLoss_eq (u : FVec Ideal S64 .f32) (j : S_.Idx) :
    refLoss u j = ∑ e : Fin 64, u (ix1 e) * Ideal.log (u (ix1 e) * 64 + Ideal.ofBits .f32 0x322BCC77#32) := by
  unfold refLoss
  pointwise
  refine Finset.sum_congr rfl fun e _ => ?_
  rw [ofBits_64, div_real 1 64 (by norm_num), one_mul, div_real _ (1 / 64) (by norm_num), one_div_one_div]
  rfl

variable {x : Tokens} {w : Gate}

/-- On real arguments the sort's source is the expert of the closed form. -/
theorem source_share (hx : AllReal x) (hw : AllReal w) (b : Fin 4) (s : Fin 4096) (r : Fin 8) :
    source (refShare (refExpo (refScore x w))) b s r = expert x w b s r := by
  unfold source expert
  refine sortedFrom_eq_pick ?_ _ (fun k k' => ?_) r
  · intro e
    obtain ⟨p, hp, he⟩ := expo_real hx hw b s
    rw [he]
    exact EReal.coe_nonneg.mpr (hp e).le
  · simp only [refShare_apply]
    show (BitVec.ofBool (decide (share x w b s k' < share x w b s k)) == 1#1) = _
    rw [decide_eq_decide.mpr (share_lt hx hw b s k k')]
    generalize decide (expo x w b s k' < expo x w b s k) = t
    cases t <;> rfl

/-- The first result of the reference. -/
theorem ref_weights (hx : AllReal x) (hw : AllReal w) (b : Fin 4) (s : Fin 4096) (r : Fin 8) :
    refWeight (refTop (refShare (refExpo (refScore x w)))).1 (ix3 b s r) = weight x w b s r := by
  rw [refWeight_apply]
  simp only [refTop_value, source_share hx hw, refShare_apply]
  exact weight_eq hx hw b s r

/-- The second result of the reference. -/
theorem ref_places (hx : AllReal x) (hw : AllReal w) (b : Fin 4) (s : Fin 4096) (r : Fin 8) :
    (refTop (refShare (refExpo (refScore x w)))).2 (ix3 b s r) = BitVec.ofNat 32 (expert x w b s r).val := by
  rw [refTop_index, source_share hx hw]

/-- The third result of the reference. -/
theorem ref_loss (hx : AllReal x) (hw : AllReal w) (j : S_.Idx) :
    refLoss (refMean (refShare (refExpo (refScore x w)))) j = loss (shares x w) := by
  rw [refLoss_eq]
  unfold loss shares
  simp only [refMean_apply, refShare_apply, share_eq hx hw]

end Cert.Router

end
-- ==== Proof.Results.lean ====
/-
  On finite arguments the idealized kernel and the plain reference leave the same three results.
-/
module

public import proofs.«01_k».proof.Defs
public import proofs.«01_k».proof.Proof.Tail
public import proofs.«01_k».proof.Proof.Reference
public import Idealize.ShloMosaic.Lib.Claim

@[expose] public section

set_option maxRecDepth 16384

noncomputable section

open Idealize.ShloMosaic Idealize.ShloMosaic.TcCoe Idealize.SL.Sem

namespace Cert.Router

/-- The facts that the precondition's text states. -/
theorem finite_facts : Cert.Pre_finite_inputs.Facts := ⟨by decide, by decide⟩

/-- A three-axis index is its three coordinates. -/
theorem ix3_eta {a b c : ℕ} (j : (⟨3, ![a, b, c]⟩ : Shape).Idx) : j = ix3 (j 0) (j 1) (j 2) := by
  funext t
  fin_cases t <;> rfl

/-- An extended real whose absolute value is below ⊤ is a real. -/
theorem real_of_abs_lt (y : EReal) (h : max y (-y) < ⊤) : ∃ r : ℝ, y = (r : EReal) := by
  have h1 : y ≠ ⊤ := fun e => by subst e; exact absurd (le_max_left (⊤ : EReal) (-⊤)) (not_le_of_gt h)
  have h2 : y ≠ ⊥ := fun e => by
    subst e
    rw [EReal.neg_bot] at h
    exact absurd (le_max_right (⊥ : EReal) ⊤) (not_le_of_gt h)
  exact ⟨y.toReal, (EReal.coe_toReal h1 h2).symm⟩

/-- A bit made from a proposition that holds. -/
theorem of_bit {p : Prop} [Decidable p] (h : BitVec.ofBool (decide p) = 1#1) : p := by
  by_contra hp
  rw [decide_eq_false hp] at h
  exact absurd h (by decide)

variable (m : (ℓ : Loc Cert.KernelIdeal.nD Cert.KernelIdeal.τ Cert.KernelIdeal.sig) → Buf (Elt Ideal) ℓ)

/-- Finite tokens are real. -/
theorem tokens_real (h : Cert.Pre_KernelIdeal_finite_inputs (hPre_finite_inputs := finite_facts) m)
    (c : Dev Cert.KernelIdeal.nD) : AllReal (argX m c) := by
  intro i
  have hi := congrFun (h c).1 i
  refine real_of_abs_lt _ ?_
  rw [← ofBits_top]
  exact of_bit hi

/-- A finite gate is real. -/
theorem gate_real (h : Cert.Pre_KernelIdeal_finite_inputs (hPre_finite_inputs := finite_facts) m)
    (c : Dev Cert.KernelIdeal.nD) : AllReal (argW m c) := by
  intro i
  have hi := congrFun (h c).2 i
  refine real_of_abs_lt _ ?_
  rw [← ofBits_top]
  exact of_bit hi

/-- The kernel's run, on any arguments. -/
theorem kernel_run (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        (r.2.mem ((c.tc : Thread Cert.KernelIdeal.nD Cert.KernelIdeal.τ).loc Cert.KernelIdeal.main_v3)
            = fun j => weight (argX m c) (argW m c) (j 0) (j 1) (j 2))
        ∧ (r.2.mem ((c.tc : Thread Cert.KernelIdeal.nD Cert.KernelIdeal.τ).loc Cert.KernelIdeal.main_v5)
            = fun j => BitVec.ofNat 32 (expert (argX m c) (argW m c) (j 0) (j 1) (j 2)).val)
        ∧ (r.2.mem ((c.tc : Thread Cert.KernelIdeal.nD Cert.KernelIdeal.τ).loc Cert.KernelIdeal.main_v6)
            = fun _ => loss (shares (argX m c) (argW m c)))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) := by
  refine θ_run_mono (θ_run_and (Cert.KernelIdeal.Gen.run_main m g) (Cert.KernelIdeal.Gen.unchanged m g)) ?_
  intro r h c
  refine ⟨?_, ?_, ?_, (h.2 c).1, (h.2 c).2⟩
  · refine ((h.1 c).2 Cert.KernelIdeal.main_v3 (Pipeline.mem_restRefs_of _ (by decide) (by decide))).trans ?_
    funext j
    rw [ix3_eta j]
    exact tail_weights m c _ _ _
  · refine ((h.1 c).2 Cert.KernelIdeal.main_v5 (Pipeline.mem_restRefs_of _ (by decide) (by decide))).trans ?_
    funext j
    rw [ix3_eta j]
    exact tail_places m c _ _ _
  · refine ((h.1 c).2 Cert.KernelIdeal.main_v6 (Pipeline.mem_restRefs_of _ (by decide) (by decide))).trans ?_
    funext j
    exact tail_loss m c j

/-- The reference's run, on finite arguments. -/
theorem reference_run (m' : (ℓ : Loc Cert.ReferenceIdeal.nD Cert.ReferenceIdeal.τ Cert.ReferenceIdeal.sig) → Buf (Elt Ideal) ℓ)
    (g' : Dev Cert.ReferenceIdeal.nD → PrngReg) (x : Dev Cert.ReferenceIdeal.nD → Tokens) (w : Dev Cert.ReferenceIdeal.nD → Gate)
    (hx : ∀ c : Dev Cert.ReferenceIdeal.nD,
      m' ((c.tc : Thread Cert.ReferenceIdeal.nD Cert.ReferenceIdeal.τ).loc Cert.ReferenceIdeal.main_arg0) = x c)
    (hw : ∀ c : Dev Cert.ReferenceIdeal.nD,
      m' ((c.tc : Thread Cert.ReferenceIdeal.nD Cert.ReferenceIdeal.τ).loc Cert.ReferenceIdeal.main_arg1) = w c)
    (rx : ∀ c, AllReal (x c)) (rw' : ∀ c, AllReal (w c)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        (r.2.mem ((c.tc : Thread Cert.ReferenceIdeal.nD Cert.ReferenceIdeal.τ).loc Cert.ReferenceIdeal.main_v15)
            = fun j => weight (x c) (w c) (j 0) (j 1) (j 2))
        ∧ (r.2.mem ((c.tc : Thread Cert.ReferenceIdeal.nD Cert.ReferenceIdeal.τ).loc Cert.ReferenceIdeal.main_indices)
            = fun j => BitVec.ofNat 32 (expert (x c) (w c) (j 0) (j 1) (j 2)).val)
        ∧ (r.2.mem ((c.tc : Thread Cert.ReferenceIdeal.nD Cert.ReferenceIdeal.τ).loc Cert.ReferenceIdeal.main_v27)
            = fun _ => loss (shares (x c) (w c)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  refine θ_run_mono (Cert.ReferenceIdeal.Value.run m' g') ?_
  intro r h c
  obtain ⟨h1, h2, h3, h4⟩ := h c
  refine ⟨h1.trans ?_, h2.trans ?_, h3.trans ?_, h4⟩
  · rw [hx c, hw c]
    funext j
    rw [ix3_eta j]
    exact ref_weights (rx c) (rw' c) _ _ _
  · rw [hx c, hw c]
    funext j
    rw [ix3_eta j]
    exact ref_places (rx c) (rw' c) _ _ _
  · rw [hx c, hw c]
    funext j
    exact ref_loss (rx c) (rw' c) j

/-- At `Ideal`, on finite arguments, the kernel's three results and the reference's agree. -/
theorem algebraic : Cert.algebraic_KernelIdeal_ReferenceIdeal_pre_finite_inputs
    (hKernelIdeal := Cert.KernelIdeal.Gen.facts) (hReferenceIdeal := Cert.ReferenceIdeal.Gen.facts)
    (hPre_finite_inputs := finite_facts) := by
  intro m g m' g' hpre hagree
  exact ⟨_, _, _, kernel_run m g, reference_run m' g' (argX m) (argW m) (fun c => (hagree c).1) (fun c => (hagree c).2)
    (tokens_real m hpre) (gate_real m hpre)⟩

end Cert.Router

end
-- ==== Proof.lean ====
module

public import proofs.«01_k».proof.Proof.Gen.ReferenceIdeal.Run
public import proofs.«01_k».proof.Defs
public import proofs.«01_k».proof.Proof.Results
public import proofs.«01_k».proof.Proof.Gen.Kernel.Frame
public import proofs.«01_k».proof.Proof.Gen.KernelIdeal.Frame
public import Idealize.ShloMosaic.Adequacy
public import Idealize.ShloMosaic.Init
public import Idealize.ShloMosaic.Lib.Claim

@[expose] public section

noncomputable section

namespace Cert.Proof

open Idealize.ShloMosaic Idealize.SL.Sem

/-- The reference runs to the end and leaves its arguments and the semaphores alone. -/
theorem ref_frame : Cert.quiescent_ReferenceIdeal := by
  intro m g _
  refine θ_run_mono (Cert.ReferenceIdeal.Value.run m g) fun r h => ⟨fun c => (h c).2.2.2, ?_⟩
  exact funext fun ℓ => nomatch ℓ

/-- The same, of finite arguments. -/
theorem ref_frame_finite : Cert.quiescent_ReferenceIdeal_pre_finite_inputs (hPre_finite_inputs := Cert.Router.finite_facts) := by
  intro m g _
  refine θ_run_mono (Cert.ReferenceIdeal.Value.run m g) fun r h => ⟨fun c => (h c).2.2.2, ?_⟩
  exact funext fun ℓ => nomatch ℓ

/-- The claim: the frames, the idealization, and the three results. -/
theorem claim : Cert.Claim := ⟨Cert.Kernel.Gen.facts, Cert.KernelIdeal.Gen.facts, Cert.ReferenceIdeal.Gen.facts,
  Cert.Router.finite_facts, fun m ρ _ => Cert.Kernel.Gen.frame m ρ, fun m ρ _ => Cert.KernelIdeal.Gen.frame m ρ,
  fun m ρ _ => Cert.KernelIdeal.Gen.frame m ρ, ref_frame, ref_frame_finite, trivial, Cert.Router.algebraic⟩

end Cert.Proof

end
